-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S512x256 : Shape := ⟨2, ![512, 256]⟩
abbrev S_ : Shape := ⟨0, ![]⟩

abbrev nBuf : Space → Nat
  | .hbm => 2
  | .vmem => 1
  | .smem => 0
  | _ => 0

abbrev bufTy : (tb : Table) → Fin (tcTables nBuf tb) → BufTy
  | .hbm, ⟨0, _⟩ => ⟨S256x256, .f32⟩
  | .hbm, ⟨1, _⟩ => ⟨S512x256, .f32⟩
  | .local _ .vmem, ⟨0, _⟩ => ⟨S256x256, .f32⟩
  | _, _ => ⟨S256x256, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v12 : BitVec 32 := Scalar.muli v5 c256_i32
  let c0_i32_10 : BitVec 32 := 0#32
  ![v12.toNat, 0]
def k0_dev2 (d0 : Dev nD) : Nat :=
  let c0_i32_8 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v13 : BitVec 32 := Scalar.muli v2 c2_i32_7
  let v14 : BitVec 32 := Scalar.addi c0_i32_8 v13
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_9 : BitVec 32 := 1#32
  let v15 : BitVec 32 := Scalar.muli v6 c1_i32_9
  let v16 : BitVec 32 := Scalar.addi v14 v15
  v16.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x256 : Shape := ⟨2, ![512, 256]⟩

abbrev nBuf : Space → Nat
  | .hbm => 1
  | .vmem => 0
  | .smem => 0
  | _ => 0

abbrev bufTy : (tb : Table) → Fin (tcTables nBuf tb) → BufTy
  | .hbm, ⟨0, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdeal.Rows.lean ====
/-
# Which rows of the result a device writes, and what the whole result holds

The mesh is 2 × 2 and the device at `(i, j)` has the logical number `2 i + j`. Each device holds a block of 256
rows. The two devices of a mesh row exchange their blocks: device `(i, j)` writes its block at rows
`256 j … 256 j + 255` of its own result and of the other device's. This module has the facts about those
rows that need no separation logic:

* `peer`: the other device of the mesh row;
* `rowsOf d`: the half of the result array that holds device `d`'s block, as a view of the array;
* `gathered xs c`: the result of device `c` when device `d` starts with block `xs d`;
* `write_rows`: a copy of `xs d` into `rowsOf d` leaves there what `gathered` says;
* `rows_disjoint`, `rows_cover`: the halves of the two devices of a mesh row are the whole array, without overlap.
-/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit

@[expose] public section

noncomputable section

namespace Cert.KernelIdeal.Exchange

open Cert.KernelIdeal Cert.KernelIdeal.Gen
open Idealize.ShloMosaic
open Idealize.ShloMosaic.TcCoe

/-! ## The other device of the mesh row -/

set_option backward.proofsInPublic true in
/-- The device at `(i, 1 - j)`, seen from the one at `(i, j)`. -/
def peer (c : Dev nD) : Dev nD := ⟨2 * (c.val / 2) + 1 - c.val % 2, by have := c.isLt; change c.val < 4 at this; show _ < 4; omega⟩

/-- The other device's other device is the device itself. -/
theorem peer_peer (c : Dev nD) : peer (peer c) = c := by revert c; decide

/-- The device the entry signal is addressed to is the other device of the mesh row. -/
theorem signal_dev (c : Dev nD) : (⟨k0_dev1 c, k0_dev1_lt c⟩ : Dev nD) = peer c := Fin.ext (k0_dev1_eq c)

/-- The device the remote copy is addressed to is the other device of the mesh row. -/
theorem copy_dev (c : Dev nD) : (⟨k0_dev2 c, k0_dev2_lt c⟩ : Dev nD) = peer c := Fin.ext (k0_dev2_eq c)

/-- Exchanging the devices of every mesh row, as a permutation of the mesh. -/
def swap : Dev nD ≃ Dev nD := ⟨peer, peer, peer_peer, peer_peer⟩

/-! ## The two halves of the result -/

/-- A device's staged block of `x`. -/
abbrev xM : Memref sig .tc .vmem S256x256 .f32 := Memref.whole cc0_stg0_0

/-- The rows of the result that hold device `d`'s block: rows `256 (d % 2) … 256 (d % 2) + 255`. -/
abbrev rowsOf (d : Dev nD) : Memref sig .tc .hbm S256x256 .f32 :=
  (Memref.whole main_v1 : Memref sig .tc .hbm S512x256 .f32).slice
    (Rect.unit (s := S512x256) (k0_off1 d) S256x256.size (k0_off1_inb d)) (fun _ => rfl)

/-- The elements of the result that hold device `d`'s block. -/
abbrev rowSet (d : Dev nD) : Finset S512x256.Idx := (rowsOf d).view.set

/-- An element is among device `d`'s rows exactly when its row number divided by 256 is `d`'s column in the mesh. -/
theorem mem_rowSet (d : Dev nD) (i : S512x256.Idx) : i ∈ rowSet d ↔ (i 0).val / 256 = d.val % 2 := by
  show i ∈ ((View.whole main_v1).slice (Rect.unit (s := S512x256) (k0_off1 d) S256x256.size (k0_off1_inb d))).set ↔ _
  rw [View.set_slice_whole]
  refine Rect.mem_set_unit.trans ?_
  simp only [k0_off1_eq]
  have h0 : (i 0).val < 512 := (i 0).isLt
  have h1 : (i 1).val < 256 := (i 1).isLt
  constructor
  · intro h
    have h := h 0
    change 256 * (d.val % 2) ≤ (i 0).val ∧ (i 0).val < 256 * (d.val % 2) + 256 at h
    omega
  · intro h a
    fin_cases a
    · show 256 * (d.val % 2) ≤ (i 0).val ∧ (i 0).val < 256 * (d.val % 2) + 256
      omega
    · show 0 ≤ (i 1).val ∧ (i 1).val < 0 + 256
      omega

/-- The rows of a device and of the other device of its mesh row do not overlap. -/
theorem rows_disjoint (c : Dev nD) : Disjoint (rowSet c) (rowSet (peer c)) := by
  refine Finset.disjoint_left.mpr fun i hi hj => ?_
  rw [mem_rowSet] at hi hj
  have : (peer c).val = 2 * (c.val / 2) + 1 - c.val % 2 := rfl
  omega

/-- The rows of a device and of the other device of its mesh row are the whole result. -/
theorem rows_cover (c : Dev nD) : rowSet c ∪ rowSet (peer c) = Finset.univ := by
  refine Finset.eq_univ_of_forall fun i => Finset.mem_union.mpr ?_
  rw [mem_rowSet, mem_rowSet]
  have : (peer c).val = 2 * (c.val / 2) + 1 - c.val % 2 := rfl
  have h0 : (i 0).val < 512 := (i 0).isLt
  omega

/-! ## What the result holds -/

variable {α : Type}

/-- The device of `c`'s mesh row whose block the result's row `r` belongs to. -/
def owner (c : Dev nD) (r : Fin 512) : Dev nD := ⟨2 * (c.val / 2) + r.val / 256, by
  have := c.isLt; change c.val < 4 at this; have := r.isLt; show _ < 4; omega⟩

/-- The result of device `c` when device `d` starts with block `xs d`: row `r` is row `r % 256` of the block of
    the device of `c`'s mesh row in mesh column `r / 256`. -/
def gathered (xs : Dev nD → S256x256.Idx → α) (c : Dev nD) : S512x256.Idx → α := fun i =>
  xs (owner c (i 0)) (Shape.pair ⟨(i 0).val % 256, Nat.mod_lt _ (by decide)⟩ (i 1))

/-- The two devices of a mesh row gather the same array. -/
theorem gathered_peer (xs : Dev nD → S256x256.Idx → α) (c : Dev nD) : gathered xs (peer c) = gathered xs c := by
  funext i
  unfold gathered
  congr 1
  refine Fin.ext ?_
  show 2 * ((2 * (c.val / 2) + 1 - c.val % 2) / 2) + (i 0).val / 256 = 2 * (c.val / 2) + (i 0).val / 256
  omega

variable {F : FTy → Type} [FloatOps F]

/-- Whatever the result held before, once device `c`'s block is copied into its rows, these hold what `gathered` says. -/
theorem write_rows (xs : Dev nD → S256x256.Idx → Elt F .f32) (c : Dev nD) (fd : S512x256.Idx → Elt F .f32)
    (i : S512x256.Idx) (hi : i ∈ rowSet c) :
    (rowsOf c).view.write (Elt F) fd ((xM).view.read (Elt F) (xs c)) Finset.univ i = gathered xs c i := by
  obtain ⟨x, -, rfl⟩ := Finset.mem_map.mp hi
  refine (View.write_emb_of_mem _ _ (Finset.mem_univ x)).trans ?_
  have hx0 : (x 0).val < 256 := (x 0).isLt
  have hc : c.val < 4 := c.isLt
  have e0 : ((rowsOf c).view.emb x 0).val = 256 * (c.val % 2) + (x 0).val := by
    show k0_off1 c 0 + 1 * (x 0).val = _
    rw [k0_off1_eq, Nat.one_mul]; rfl
  have e1 : ((rowsOf c).view.emb x 1).val = (x 1).val := by
    show k0_off1 c 1 + 1 * (x 1).val = _
    rw [k0_off1_eq, Nat.one_mul]; exact Nat.zero_add _
  show xs c x = _
  unfold gathered
  have ho : owner c ((rowsOf c).view.emb x 0) = c := Fin.ext (by
    show 2 * (c.val / 2) + ((rowsOf c).view.emb x 0).val / 256 = c.val
    rw [e0]; omega)
  rw [ho]
  congr 1
  funext a
  fin_cases a
  · refine Fin.ext ?_
    show (x 0).val = ((rowsOf c).view.emb x 0).val % 256
    rw [e0]; omega
  · exact Fin.ext e1.symm

end Cert.KernelIdeal.Exchange

end
-- ==== Proof.KernelIdeal.Protocol.lean ====
/-
# The exchange as a protocol between the two devices of a mesh row

Each device has four semaphores, numbered by `csem`:

0. the barrier semaphore. The other device raises it by one when it enters the kernel, and with that gives this
   device the right to write this device's rows of the other's result;
1. the send semaphore. The remote copy raises it once the source block has been read: half of the source comes
   back;
2. the receive semaphore. The other device's remote copy raises it once its block has landed in this device's
   result;
3. the local semaphore. The local copy raises it once this device's block is in its own result: the rows come
   back written, with the other half of the source.

Each of the four is raised once and awaited once. So each is a cell of the rounds library with one duty, in round 0.
A device owes two raises when it enters, both to the other device: one unit on its barrier semaphore, and one block
on its receive semaphore. It waits on its own barrier semaphore while it owes the block, so barrier cells have level
1 and receive cells level 2; nothing else is awaited while something is owed to a lower level.

The module states this schedule and what every cell, device and wait is worth under it.
-/
module

public import proofs.«01_k».proof.Proof.KernelIdeal.Rows
public import proofs.«01_k».proof.Proof.Gen.KernelIdeal.Skeleton
public import Idealize.ShloMosaic.Lib.Tactic

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Two copies of the rounds library's resources: the staging pipeline's and the exchange's. -/
abbrev UU : Type := UR sig nD τ × UR sig nD τ

local notation "𝕄" => MT nD τ sig Unit (Elt F) ℕ UU ℕ

/-- The staging pipeline's copy. -/
abbrev EP : Emb (UR sig nD τ) (MT nD τ sig Unit (Elt F) ℕ UU ℕ) := embL
/-- The exchange's copy. -/
abbrev ER : Emb (UR sig nD τ) (MT nD τ sig Unit (Elt F) ℕ UU ℕ) := embR

variable (m : (ℓ : Loc nD τ sig) → Buf (Elt F) ℓ)

/-! ## The cells -/

/-- The barrier semaphore, which is not the kernel's own: every kernel with this collective id shares it. -/
abbrev barS : Sem sig := (SemArray.scalar (sig.barrier 0 rfl) : Sems sig S_).sem

/-- A device's four semaphores: barrier, send, receive, local. -/
abbrev csem : Fin 4 → SemLoc sig
  | 0 => .reg barS | 1 => .dma cc0_scratch0.sem | 2 => .dma cc0_scratch1.sem | 3 => .dma cc0_scratch2.sem

/-- Those of the four that the kernel allocates: send, receive, local. -/
abbrev osem : Fin 3 → SemLoc sig
  | 0 => .dma cc0_scratch0.sem | 1 => .dma cc0_scratch1.sem | 2 => .dma cc0_scratch2.sem

/-- Semaphore `k` of device `c`. -/
abbrev cell (c : Dev nD) (k : Fin 4) : GSem nD τ sig := ((c : Thread nD τ), csem k)

/-- The four semaphores are different. -/
theorem csem_injective : Function.Injective csem := by decide

/-- Two cells are the same only if device and semaphore are. -/
theorem cell_eq {c d : Dev nD} {k l : Fin 4} : cell c k = cell d l ↔ c = d ∧ k = l :=
  ⟨fun h => ⟨Fin.ext (congrArg (fun g : GSem nD τ sig => g.1.1.val) h), csem_injective (congrArg Prod.snd h)⟩,
    fun h => by rw [h.1, h.2]⟩

/-- What a copy of one block raises a semaphore by. -/
abbrev N : ℕ := (xM : Memref sig .tc .vmem S256x256 .f32).view.dmaCredit
/-- A copy raises its semaphore by something. -/
theorem N_pos : 0 < N := View.dmaCredit_pos _ (by decide)

/-- A copy into rows of the result raises its semaphore by the same amount as one into the staging buffer. -/
theorem rows_credit (d : Dev nD) : (rowsOf d).view.dmaCredit = N := rfl

/-! ## What the cells hand over -/

/-- Device `d`'s block of `x` at launch. -/
def xs (d : Dev nD) : S256x256.Idx → Elt F .f32 := m ((d : Thread nD τ).loc main_arg0)

/-- Device `c` may write the rows of device `d`'s block in its result, which holds `f`. -/
def rowsAt (c d : Dev nD) (f : S512x256.Idx → Elt F .f32) : sProp 𝕄 :=
  (rowsOf d).view.loc (c : Thread nD τ) ↦[(rowsOf d).view.set]{fullShare} f

/-- A share of device `c`'s staged block. -/
def xAt (q : PosShare TreeShare) (c : Dev nD) : sProp 𝕄 :=
  (xM).view.loc (c : Thread nD τ) ↦[(xM).view.set]{q} xs m c

instance rowsAt_storable (c d : Dev nD) (f) : BI.Storable (upEmb : UEmb _ 𝕄) (rowsAt (F := F) c d f) := by
  unfold rowsAt; infer_instance
instance xAt_storable (q) (c : Dev nD) : BI.Storable (upEmb : UEmb _ 𝕄) (xAt (F := F) m q c) := by
  unfold xAt; infer_instance

/-- The whole staged block is the left half share of it and the right half share. -/
theorem xAt_halves (c : Dev nD) :
    (((c : Thread nD τ).loc cc0_stg0_0) ↦{fullShare} xs m c : sProp 𝕄) ⊣⊢ iprop(xAt m fullShare.left c ∗ xAt m fullShare.right c) := by
  unfold xAt
  rw [View.set_whole]
  exact pointsTo_share (PosShare.mem_left_op_right fullShare)

/-- The whole result of device `c`, at any contents, is its own rows and the other device's rows. -/
theorem result_halves (c : Dev nD) (f : S512x256.Idx → Elt F .f32) :
    (((c : Thread nD τ).loc main_v1) ↦{fullShare} f : sProp 𝕄) ⊣⊢ iprop(rowsAt c c f ∗ rowsAt c (peer c) f) := by
  unfold rowsAt
  have h := pointsTo_union (ℓ := (c : Thread nD τ).loc main_v1) (q := fullShare) (f := f) (Ix := Unit) (Name := ℕ) (U := UU) (Lvl := ℕ)
    (rows_disjoint c)
  rw [rows_cover c] at h
  exact h

/-- Device `c`'s rows, on either device of its mesh row, after its block is copied into them: they hold what they do in
    the gathered array. -/
theorem rowsAt_written (e c : Dev nD) (fd : S512x256.Idx → Elt F .f32) :
    ((rowsOf c).view.loc (e : Thread nD τ) ↦[(rowsOf c).view.set]{fullShare}
        ((rowsOf c).view.write (Elt F) fd ((xM).view.read (Elt F) (xs m c)) Finset.univ) : sProp 𝕄)
      = rowsAt e c (gathered (xs m) c) := by
  unfold rowsAt
  exact pointsTo_congr fun i hi => write_rows (xs m) c fd i hi

/-- What the four cells of device `c` hand over: the other device's half of the exchange, half of the source, the other
    device's block in place, its own block in place with the other half of the source. -/
def pay (c : Dev nD) : Fin 4 → sProp 𝕄
  | 0 => iprop((∃ f, rowsAt (peer c) c f) ∗ reached ER (cell (peer c) 2) 0)
  | 1 => xAt m fullShare.left c
  | 2 => rowsAt c (peer c) (gathered (xs m) c)
  | 3 => iprop(rowsAt c c (gathered (xs m) c) ∗ xAt m fullShare.right c)

instance pay_storable (c : Dev nD) (k : Fin 4) : BI.Storable (upEmb : UEmb _ 𝕄) (pay (F := F) m c k) := by
  fin_cases k <;> (unfold pay; dsimp only; infer_instance)

/-! ## The schedule -/

/-- Every cell of the exchange has one duty, in round 0: one unit on a barrier semaphore, one block elsewhere. -/
def sched : Rounds.Schedule (GSem nD τ sig) Unit 𝕄 where
  duties g r := if r = 0 ∧ g.1.2 = .tc ∧ ∃ k, g.2 = csem k then {()} else ∅
  unitless _ := False
  amount g _ _ := if g.2 = csem 0 then 1 else N
  payload g _ _ :=
    if g.2 = csem 0 then pay m g.1.1 0 else if g.2 = csem 1 then pay m g.1.1 1
    else if g.2 = csem 2 then pay m g.1.1 2 else if g.2 = csem 3 then pay m g.1.1 3 else iprop(emp)
  amount_pos g _ _ _ := by
    split
    · exact Nat.one_pos
    · exact N_pos

instance sched_storable (g : GSem nD τ sig) (r : ℕ) (u : Unit) :
    BI.Storable (upEmb : UEmb _ 𝕄) ((sched (F := F) m).payload g r u) := by
  show BI.Storable upEmb (if g.2 = csem 0 then pay m g.1.1 0 else if g.2 = csem 1 then pay m g.1.1 1
    else if g.2 = csem 2 then pay m g.1.1 2 else if g.2 = csem 3 then pay m g.1.1 3 else iprop(emp))
  (repeat' split) <;> infer_instance

/-- A cell of the exchange has one duty in round 0 … -/
theorem sched_duties (c : Dev nD) (k : Fin 4) : (sched (F := F) m).duties (cell c k) 0 = {()} := if_pos ⟨rfl, rfl, k, rfl⟩

/-- … so this duty is one of them … -/
theorem sched_duty (c : Dev nD) (k : Fin 4) : () ∈ (sched (F := F) m).duties (cell c k) 0 := by
  rw [sched_duties]; exact Finset.mem_singleton_self _

/-- … and no later round has any. -/
theorem sched_over (g : GSem nD τ sig) (r : ℕ) (hr : 0 + 1 ≤ r) : (sched (F := F) m).duties g r = ∅ := if_neg fun h => by omega

/-- What a raise of semaphore `k` adds to it. -/
abbrev units (k : Fin 4) : ℕ := if k = 0 then 1 else N

/-- A duty of cell `k` raises it by `units k` … -/
theorem sched_amount (c : Dev nD) (k : Fin 4) (u : Unit) : (sched (F := F) m).amount (cell c k) 0 u = units k := by
  unfold units
  by_cases h : k = 0
  · subst h; rw [if_pos rfl]; dsimp only [sched]; exact if_pos rfl
  · rw [if_neg h]; exact if_neg fun e => h (csem_injective e)

/-- … which is all that the cell waits for … -/
theorem sched_expect (c : Dev nD) (k : Fin 4) : (sched (F := F) m).expect (cell c k) 0 = units k := by
  unfold Schedule.expect Schedule.amountOf
  rw [sched_duties, Finset.sum_singleton, sched_amount]

/-- … and hands over what `pay` says. -/
theorem sched_payload (c : Dev nD) (k : Fin 4) (u : Unit) : (sched (F := F) m).payload (cell c k) 0 u = pay m c k := by
  have e : ∀ j l : Fin 4, j ≠ l → csem j ≠ csem l := fun j l h e => h (csem_injective e)
  dsimp only [sched]
  fin_cases k
  · exact if_pos rfl
  · exact (if_neg (e 1 0 (by decide))).trans (if_pos rfl)
  · exact (if_neg (e 2 0 (by decide))).trans ((if_neg (e 2 1 (by decide))).trans (if_pos rfl))
  · exact (if_neg (e 3 0 (by decide))).trans ((if_neg (e 3 1 (by decide))).trans ((if_neg (e 3 2 (by decide))).trans (if_pos rfl)))

/-- All that a cell's only round hands over. -/
theorem sched_rest (c : Dev nD) (k : Fin 4) :
    bigSep ((sched (F := F) m).duties (cell c k) 0 \ ∅) (fun u => (sched (F := F) m).payload (cell c k) 0 u) = pay m c k := by
  rw [Finset.sdiff_empty, sched_duties, bigSep_singleton, sched_payload]

/-! ## What a device owes, and the levels -/

/-- Device `c` owes the other device of its mesh row one block on its receive semaphore and one unit on its barrier semaphore. -/
def O₀ (c : Dev nD) : CellTallies nD τ sig Unit := tallyAt (cell (peer c) 2) () N + tallyAt (cell (peer c) 0) () 1

/-- A device's cells have one level each, other cells none. -/
def L (g : GSem nD τ sig) : Finset Unit := if g.1.2 = .tc then {()} else ∅
/-- Barrier cells have level 1, receive cells level 2, all others level 0. -/
def lv (g : GSem nD τ sig) (_ : Unit) : ℕ := if g.2 = csem 0 then 1 else if g.2 = csem 2 then 2 else 0

/-- Only the devices' main cores have levels … -/
theorem L_of_ne (g : GSem nD τ sig) (h : g.1.2 ≠ .tc) : L g = ∅ := if_neg h
/-- … and each of their semaphores does. -/
theorem mem_L (c : Dev nD) (sm : SemLoc sig) : () ∈ L ((c : Thread nD τ), sm) := by
  rw [show L ((c : Thread nD τ), sm) = {()} from if_pos rfl]; exact Finset.mem_singleton_self _
/-- The level of a barrier cell … -/
theorem lv_bar (c : Dev nD) : lv (cell c 0) () = 1 := if_pos rfl
/-- … of a receive cell … -/
theorem lv_recv (c : Dev nD) : lv (cell c 2) () = 2 :=
  (if_neg (show csem 2 ≠ csem 0 by decide)).trans (if_pos rfl)
/-- … and of any other. -/
theorem lv_other (c : Dev nD) (sm : SemLoc sig) (h0 : sm ≠ csem 0) (h2 : sm ≠ csem 2) : lv ((c : Thread nD τ), sm) () = 0 :=
  (if_neg h0).trans (if_neg h2)

/-- A tally at one cell is positive nowhere else. -/
theorem tallyAt_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

/-- A device owes something only to the other device's receive and barrier cells. -/
theorem O₀_pos {c : Dev nD} {g : GSem nD τ sig} {u : Unit} (h : 0 < O₀ c g u) : g = cell (peer c) 2 ∨ g = cell (peer c) 0 := by
  unfold O₀ at h
  rw [Pi.add_apply, Finsupp.add_apply] at h
  rcases Nat.add_pos_iff_pos_or_pos.mp h with h | h
  · exact Or.inl (tallyAt_pos h)
  · exact Or.inr (tallyAt_pos h)

/-- A staging semaphore may be awaited whether the device owes everything or nothing. -/
theorem mayWait_stage (c : Dev nD) (sm : SemLoc sig) (h0 : sm ≠ csem 0) (h2 : sm ≠ csem 2) (O : CellTallies nD τ sig Unit)
    (hO : O = O₀ c ∨ O = 0) : (levAts L lv : sProp 𝕄) ⊢ MayWait (c : Thread nD τ) sm () O := by
  rcases hO with rfl | rfl
  · refine MayOwe.of_cut (L := L) (lev := lv) 0 (fun p hp => by rw [Finset.mem_singleton.mp hp]; exact mem_L _ _)
      (fun g u hg => by rcases O₀_pos hg with rfl | rfl <;> exact mem_L _ _)
      (fun p hp => by rw [Finset.mem_singleton.mp hp]; exact (lv_other c sm h0 h2).le)
      (fun g u hg => by
        rcases O₀_pos hg with rfl | rfl
        · exact (lv_recv _).symm ▸ Nat.two_pos
        · exact (lv_bar _).symm ▸ Nat.one_pos)
  · rw [MayWait_zero]; iintro -; iempintro

/-- The barrier semaphore may be awaited while the device owes the other device its block. -/
theorem mayWait_bar (c : Dev nD) :
    (levAts L lv : sProp 𝕄) ⊢ MayWait (c : Thread nD τ) (csem 0) () (tallyAt (cell (peer c) 2) () N) :=
  MayOwe.of_cut (L := L) (lev := lv) 1 (fun p hp => by rw [Finset.mem_singleton.mp hp]; exact mem_L _ _)
    (fun g u hg => by rw [tallyAt_pos hg]; exact mem_L _ _)
    (fun p hp => by rw [Finset.mem_singleton.mp hp]; exact (lv_bar c).le)
    (fun g u hg => by rw [tallyAt_pos hg]; exact (lv_recv _).symm ▸ Nat.one_lt_two)

/-! ## What a device starts from and ends with -/

/-- The invariants of all the cells, under names `K`, and that every cell has reached round 0. -/
def records (K : Dev nD × Fin 4 → ℕ) : sProp 𝕄 :=
  iprop((bigSep Finset.univ fun ck : Dev nD × Fin 4 => cellInv ER (sched m) (K ck) (cell ck.1 ck.2))
    ∗ bigSep Finset.univ fun ck : Dev nD × Fin 4 => reached ER (cell ck.1 ck.2) 0)

instance records_persistent (K : Dev nD × Fin 4 → ℕ) : BI.Persistent (records m K) := by unfold records; infer_instance

/-- The invariant of any one cell. -/
theorem records_inv (K : Dev nD × Fin 4 → ℕ) (c : Dev nD) (k : Fin 4) : records m K ⊢ cellInv ER (sched m) (K (c, k)) (cell c k) := by
  unfold records
  exact sep_elim_left.trans (bigSep_elim (Φ := fun ck : Dev nD × Fin 4 => (cellInv ER (sched m) (K ck) (cell ck.1 ck.2) : sProp 𝕄)) (Finset.mem_univ (c, k)))

/-- That any one cell has reached round 0. -/
theorem records_reached (K : Dev nD × Fin 4 → ℕ) (c : Dev nD) (k : Fin 4) : records m K ⊢ reached ER (cell c k) 0 := by
  unfold records
  exact sep_elim_right.trans (bigSep_elim (Φ := fun ck : Dev nD × Fin 4 => (reached ER (cell ck.1 ck.2) 0 : sProp 𝕄)) (Finset.mem_univ (c, k)))

/-- The tokens for the raises that device `c` causes: the other device's barrier and receive semaphores, its own send and local ones. -/
def payToks (c : Dev nD) : sProp 𝕄 :=
  iprop(dutyTok ER (cell (peer c) 0) 0 () ∗ dutyTok ER (cell c 1) 0 () ∗ dutyTok ER (cell (peer c) 2) 0 () ∗ dutyTok ER (cell c 3) 0 ())

/-- The positions of device `c`'s four cells. -/
def positions (c : Dev nD) : sProp 𝕄 :=
  iprop(atPos ER (cell c 0) 0 ∅ 0 ∗ atPos ER (cell c 1) 0 ∅ 0 ∗ atPos ER (cell c 2) 0 ∅ 0 ∗ atPos ER (cell c 3) 0 ∅ 0)

/-- Device `c`'s part in the exchange: the records, its positions, its tokens. -/
def ghost (K : Dev nD × Fin 4 → ℕ) (c : Dev nD) : sProp 𝕄 := iprop(records m K ∗ positions c ∗ payToks c)

/-- What device `c` starts from: its part in the exchange, the credit for the two waits that the other device pays for, the
    levels, and its result as the launch left it. -/
def start (c : Dev nD) : sProp 𝕄 :=
  iprop((∃ K, ghost m K c) ∗ cred (tallyAt (cell c 0) () 1) ∗ cred (tallyAt (cell c 2) () N) ∗ levAts L lv
    ∗ (((c : Thread nD τ).loc main_v1) ↦{fullShare} m ((c : Thread nD τ).loc main_v1)))

/-- What device `c` ends with: its result, gathered, and its four semaphores at zero. -/
def finish (c : Dev nD) : sProp 𝕄 :=
  iprop((((c : Thread nD τ).loc main_v1) ↦{fullShare} gathered (xs m) c)
    ∗ semVal (cell c 0) 0 ∗ semVal (cell c 1) 0 ∗ semVal (cell c 2) 0 ∗ semVal (cell c 3) 0)

/-- The staging pipeline of device `c`: its block is fetched and left alone; the kernel goes from `start` to `finish` and pays what it owes. -/
def dats (_ : Fin 1) (c : Dev nD) : Dat τ (Elt F) Unit ℕ UU ℕ cfg0 c where
  A w := m ((cfg0.win w).arr.view.loc (c : Thread nD τ))
  after w _ := match w with
    | ⟨0, _⟩ => xs m c
  Φ t := match t with
    | ⟨0, _⟩ => start m c
    | ⟨_ + 1, _⟩ => finish m c
  q _ := fullShare
  owed t := match t with
    | ⟨0, _⟩ => O₀ c
    | ⟨_ + 1, _⟩ => 0

/-- The kernel starts with device `c`'s block in its staging buffer. -/
theorem staged (c : Dev nD) (d : (cfg0.win (0 : Fin 1)).block.Idx → Elt F (cfg0.win (0 : Fin 1)).elt) :
    (dats m 0 c).before (0 : Fin 1) t0_0 d = xs m c := by
  unfold Dat.before
  rw [if_pos (show (cfg0.win (0 : Fin 1)).fetch t0_0 = true from rfl)]
  have hz : (fun a => (win0_0.index t0_0) a * main_arg0.ty.shape.size a) = fun _ => 0 := funext fun a => by fin_cases a <;> decide
  exact Memref.read_access_unit_zero (Elt F) main_arg0 hz (fun a => by fin_cases a <;> decide) _

end Cert.KernelIdeal.Exchange

end
-- ==== Proof.KernelIdeal.Steps.lean ====
/-
# One step of the kernel under the protocol

For each effect of the kernel's body one theorem says what it needs and what it gives back, as the protocol has it: the
entry signal, a wait for all that a cell is raised by, the remote copy, the local copy, and the closing of a cell that is done.
-/
module

public import proofs.«01_k».proof.Proof.KernelIdeal.Protocol

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The kernel has no loop that needs a variant. -/
abbrev 𝒱₀ : Variants := Variants.none

/-- A copy raises its semaphore by one block. -/
theorem amount_copy (c : Dev nD) (k : Fin 4) (hk : k ≠ 0) : (sched (F := F) m).amount (cell c k) 0 () = N :=
  (sched_amount m c k ()).trans (if_neg hk)

/-- The send cell hands over the half of the source that the remote copy reads. -/
theorem sent (c : Dev nD) :
    ((xM).view.loc (c : Thread nD τ) ↦[(xM).view.set]{fullShare.left} xs m c : sProp 𝕄) ⊢ (sched (F := F) m).payload (cell c 1) 0 () :=
  Entails.of_eq (sched_payload m c 1 ()).symm

/-- Device `c`'s block, copied into its rows on the other device, is what the other device's receive cell hands over. -/
theorem arrived (c : Dev nD) (f : S512x256.Idx → Elt F .f32) :
    ((rowsOf c).view.loc (peer c : Thread nD τ) ↦[(rowsOf c).view.set]{fullShare}
        ((rowsOf c).view.write (Elt F) f ((xM).view.read (Elt F) (xs m c)) Finset.univ) : sProp 𝕄)
      ⊢ (sched (F := F) m).payload (cell (peer c) 2) 0 () := by
  have h : rowsAt (F := F) (peer c) c (gathered (xs m) c) = pay m (peer c) 2 := by
    show _ = rowsAt (peer c) (peer (peer c)) (gathered (xs m) (peer c))
    rw [peer_peer, gathered_peer]
  exact Entails.of_eq ((rowsAt_written m (peer c) c f).trans (h.trans (sched_payload m (peer c) 2 ()).symm))

/-- Device `c`'s block, copied into its rows of its own result, with the half of the source that the local copy reads, is
    what its local cell hands over. -/
theorem placed (c : Dev nD) (f : S512x256.Idx → Elt F .f32) :
    iprop(((rowsOf c).view.loc (c : Thread nD τ) ↦[(rowsOf c).view.set]{fullShare}
          ((rowsOf c).view.write (Elt F) f ((xM).view.read (Elt F) (xs m c)) Finset.univ))
        ∗ ((xM).view.loc (c : Thread nD τ) ↦[(xM).view.set]{fullShare.right} xs m c))
      ⊢ (sched (F := F) m).payload (cell c 3) 0 () := by
  rw [rowsAt_written]
  exact Entails.of_eq (sched_payload m c 3 ()).symm

section Steps

variable (K : Dev nD × Fin 4 → ℕ) (c : Dev nD)

/-- The entry signal of device `c` to the other device `d` of its mesh row: it gives `d` the right to write `d`'s rows of
    `c`'s result, and leaves `c` owing only its block. -/
theorem step_signal {α : Type} {Q : α → sProp 𝕄} {k : PUnit → Prog (TpuEff nD τ sig (Elt F) Λ₀ .tc) α}
    (d : Dev nD) (hd : d = peer c) (n : ℕ) (hn : n = 1) (f : S512x256.Idx → Elt F .f32) (W : Waits sig Unit) :
    iprop(records m K ∗ owes (c : Thread nD τ) (O₀ c) W ∗ dutyTok ER (cell (peer c) 0) 0 () ∗ rowsAt c (peer c) f)
      ⊢ iprop((owes (c : Thread nD τ) (tallyAt (cell (peer c) 2) () N) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) barS n) k) Q) := by
  subst hd
  subst hn
  refine BIBase.Entails.trans ?_ (Rounds.wp_signal (defs := defs₀ (F := F)) (Es := Set.univ) (k := k) (Q := Q) 𝒱₀ ER (sched m) (c : Thread nD τ) none
    (dst := (peer c : Thread nD τ)) (sem := barS) (κ := K (peer c, 0)) (r := 0) (d := ()) (sched_duty m (peer c) 0)
    ((sched_amount m (peer c) 0 ()).trans (if_pos rfl)) () (O₀ := O₀ c) (tallyAt (cell (peer c) 2) () N) rfl)
  iintro ⟨#HR, HO, Ht, Hrows⟩
  ihave #HI := (records_inv m K (peer c) 0) $$ HR
  ihave #Hr := (records_reached m K (peer c) 0) $$ HR
  ihave #Hr' := (records_reached m K c 2) $$ HR
  isplitr; · iexact HI
  isplitl [HO]; · iexact HO
  isplitl [Ht]; · iexact Ht
  isplitl [Hrows]
  · iapply (Entails.of_eq (sched_payload m (peer c) 0 ()).symm)
    unfold pay
    dsimp only
    rw [peer_peer]
    isplitl [Hrows]; · iexists f; iexact Hrows
    iexact Hr'
  iexact Hr

/-- The remote copy of device `c`'s block into its rows on the other device `n` of its mesh row, the left half of the
    source under it: it pays the other device's receive cell, which is all that `c` still owes, and its own send cell. -/
theorem step_remote {α : Type} {Q : α → sProp 𝕄} {k : PUnit → Prog (TpuEff nD τ sig (Elt F) Λ₀ .tc) α}
    (n : Dev nD) (hn : n = peer c)
    {hsc : (rowsOf c : Memref sig (Dev.tc n : Thread nD τ).2.kind .hbm S256x256 .f32).view.ref.isScScratch = false}
    {hsrc : (xM).view.WordExact} {hdst : (rowsOf c).view.WordExact}
    {hsem : DmaTarget.Typed .vmem (.dma cc0_scratch1.sem) (.remote (Dev.tc n : Thread nD τ) (rowsOf c) (.dma cc0_scratch0.sem) hsc)}
    (f : S512x256.Idx → Elt F .f32) (W : Waits sig Unit) :
    iprop(records m K ∗ xAt m fullShare.left c ∗ rowsAt (peer c) c f
        ∗ owes (c : Thread nD τ) (tallyAt (cell (peer c) 2) () N) W ∗ dutyTok ER (cell c 1) 0 () ∗ dutyTok ER (cell (peer c) 2) 0 ())
      ⊢ iprop(((cred (tallyAt (cell c 1) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) (rowsOf c) (.dma cc0_scratch0.sem) hsc) (.dma cc0_scratch1.sem) hsrc hdst hsem) k) Q) := by
  subst hn
  unfold xAt rowsAt
  refine BIBase.Entails.trans ?_ (Rounds.wp_send_pointsTo (c' := (peer c : Thread nD τ)) (defs := defs₀ (F := F)) (Es := Set.univ) (k := k) (Q := Q)
    (hsc := hsc) (hsrc := hsrc) (hdst := hdst) (hsem := hsem) (src := xM) (dst := rowsOf c) 𝒱₀ ER (sched m) (c : Thread nD τ) none (κ₁ := K (c, 1)) (κ₂ := K (peer c, 2))
    (r₁ := 0) (r₂ := 0) (d₁ := ()) (d₂ := ()) (fs := xs m c) (fd := f)
    (sched_duty m c 1) (sched_duty m (peer c) 2) () () N (rows_credit c) (amount_copy m c 1 (by decide)) (amount_copy m (peer c) 2 (by decide)) 0
    (by rw [zero_add]) (W := W) (sent m c)
    (arrived m c f))
  iintro ⟨#HR, Hx, Hd, HO, Ht1, Ht2⟩
  ihave #HI1 := (records_inv m K c 1) $$ HR
  ihave #HI2 := (records_inv m K (peer c) 2) $$ HR
  ihave #Hr1 := (records_reached m K c 1) $$ HR
  ihave #Hr2 := (records_reached m K (peer c) 2) $$ HR
  isplitr; · iexact HI1
  isplitr; · iexact HI2
  isplitl [Hx]; · iexact Hx
  isplitl [Hd]; · iexact Hd
  isplitl [HO]; · iexact HO
  isplitl [Ht1]; · iexact Ht1
  isplitr; · iexact Hr1
  isplitl [Ht2]; · iexact Ht2
  iexact Hr2

/-- The local copy of device `c`'s block into its own result, the right half of the source under it: it pays the local cell. -/
theorem step_local {α : Type} {Q : α → sProp 𝕄} {k : PUnit → Prog (TpuEff nD τ sig (Elt F) Λ₀ .tc) α}
    {hsrc : (xM).view.WordExact} {hdst : (rowsOf c).view.WordExact}
    {hsem : DmaTarget.Typed (nD := nD) (τ := τ) (p := (c : Thread nD τ).2) .vmem (.dma cc0_scratch2.sem) (.here (rowsOf c))} (f : S512x256.Idx → Elt F .f32) :
    iprop(records m K ∗ xAt m fullShare.right c ∗ rowsAt c c f ∗ dutyTok ER (cell c 3) 0 ())
      ⊢ iprop((cred (tallyAt (cell c 3) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.here (rowsOf c)) (.dma cc0_scratch2.sem) hsrc hdst hsem) k) Q) := by
  unfold xAt rowsAt
  refine BIBase.Entails.trans ?_ (Rounds.wp_copy_pointsTo (defs := defs₀ (F := F)) (Es := Set.univ) (k := k) (Q := Q)
    (hsrc := hsrc) (hdst := hdst) (hsem := hsem) (src := xM) (dst := rowsOf c) 𝒱₀ ER (sched m) (c : Thread nD τ) none (κ := K (c, 3))
    (r := 0) (d := ()) (fs := xs m c) (fd := f) (sched_duty m c 3) () N (rows_credit c) (amount_copy m c 3 (by decide))
    (placed m c f))
  iintro ⟨#HR, Hx, Hd, Ht⟩
  ihave #HI := (records_inv m K c 3) $$ HR
  ihave #Hr := (records_reached m K c 3) $$ HR
  isplitr; · iexact HI
  isplitl [Hx]; · iexact Hx
  isplitl [Hd]; · iexact Hd
  isplitl [Ht]; · iexact Ht
  iexact Hr

/-- A wait for all that cell `j` of device `c` is raised by, with the credit for it and at a level that allows it: it
    hands over what the cell does. -/
theorem step_wait {α : Type} {Q : α → sProp 𝕄} {k : PUnit → Prog (TpuEff nD τ sig (Elt F) Λ₀ .tc) α}
    (j : Fin 4) (n : ℕ) (hn : n = units j) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem j) n K)
    (O : CellTallies nD τ sig Unit) (W : Waits sig Unit) :
    iprop(records m K ∗ cred (tallyAt (cell c j) () n) ∗ owes (c : Thread nD τ) O W ∗ MayWait (c : Thread nD τ) (csem j) () O
        ∗ atPos ER (cell c j) 0 ∅ 0)
      ⊢ iprop(((owes (c : Thread nD τ) O (insert (csem j, ()) W) ∗ atPos ER (cell c j) 1 ∅ 0 ∗ pay m c j)
              -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hn
  iintro ⟨#HR, Hc, HO, Hw, Hp⟩ Hk
  ihave #HI := (records_inv m K c j) $$ HR
  iapply (Rounds.wp_wait_rest_token 𝒱₀ ER (sched m) (c : Thread nD τ) none (κ := K (c, j)) hw (Set.mem_univ _) () (O := O) (W := W)
    (R := 0) (m := 0) (T := ∅) ((Nat.zero_add _).trans (sched_expect m c j).symm)) $$ [Hc HO Hw Hp]
  · isplitr; · iexact HI
    isplitl [Hc]; · iexact Hc
    isplitl [HO]; · iexact HO
    isplitl [Hw]; · iexact Hw
    iexact Hp
  iintro ⟨HO, Hp, -, Hpay⟩
  ihave Hpay' := (Entails.of_eq (sched_rest m c j)) $$ Hpay
  iapply Hk
  isplitl [HO]; · iexact HO
  isplitl [Hp]; · iexact Hp
  iexact Hpay'

/-- The wait on the barrier semaphore: it gives the right to write device `c`'s rows of the other device's result. -/
theorem step_wait_bar {α : Type} {Q : α → sProp 𝕄} {k : PUnit → Prog (TpuEff nD τ sig (Elt F) Λ₀ .tc) α}
    (n : ℕ) (hn : n = 1) (W : Waits sig Unit) :
    iprop(records m K ∗ cred (tallyAt (cell c 0) () 1) ∗ owes (c : Thread nD τ) (tallyAt (cell (peer c) 2) () N) W
        ∗ levAts L lv ∗ atPos ER (cell c 0) 0 ∅ 0)
      ⊢ iprop(((owes (c : Thread nD τ) (tallyAt (cell (peer c) 2) () N) (insert (csem 0, ()) W) ∗ atPos ER (cell c 0) 1 ∅ 0 ∗ pay m c 0)
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  refine BIBase.Entails.trans ?_ (step_wait m K c (k := k) (Q := Q) 0 1 (if_pos rfl).symm (w := .semWait barS 1)
    (wpE_semWait_eq 𝒱₀ (c : Thread nD τ) none Set.univ) (tallyAt (cell (peer c) 2) () N) W)
  iintro ⟨#HR, Hc, HO, Hl, Hp⟩
  isplitr; · iexact HR
  isplitl [Hc]; · iexact Hc
  isplitl [HO]; · iexact HO
  isplitl [Hl]; · iapply (mayWait_bar c); iexact Hl
  iexact Hp

/-- A wait for a copy of one block, with nothing owed. -/
theorem step_wait_copy {α : Type} {Q : α → sProp 𝕄} {k : PUnit → Prog (TpuEff nD τ sig (Elt F) Λ₀ .tc) α}
    (j : Fin 4) (hj : j ≠ 0) (sem : DmaSem sig) (hs : csem j = .dma sem) {sp sp' : Space}
    {src : Memref sig .tc sp S256x256 .f32} {dst : Memref sig .tc sp' S256x256 .f32} {h1 : src.view.WordExact} {h2 : dst.view.WordExact}
    (hN : dst.view.dmaCredit = N) (W : Waits sig Unit) :
    iprop(records m K ∗ cred (tallyAt (cell c j) () N) ∗ owes (c : Thread nD τ) 0 W ∗ atPos ER (cell c j) 0 ∅ 0)
      ⊢ iprop(((owes (c : Thread nD τ) 0 (insert (csem j, ()) W) ∗ atPos ER (cell c j) 1 ∅ 0 ∗ pay m c j)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst h1 h2) k) Q) := by
  have hw : ∀ X : PUnit → sProp 𝕄, wpE (defs₀ (F := F)) 𝒱₀ (c : Thread nD τ) none Set.univ (.waitDma2 sem src dst h1 h2) X
      = waitSpec (c : Thread nD τ) Set.univ (csem j) N X := by
    rw [hs, ← hN]
    exact wpE_waitDma2_eq 𝒱₀ (c : Thread nD τ) none Set.univ
  refine BIBase.Entails.trans ?_ (step_wait m K c (k := k) (Q := Q) j N (if_neg hj).symm (w := .waitDma2 sem src dst h1 h2) hw 0 W)
  iintro ⟨#HR, Hc, HO, Hp⟩
  isplitr; · iexact HR
  isplitl [Hc]; · iexact Hc
  isplitl [HO]; · iexact HO
  isplitr; · rw [MayWait_zero]; iempintro
  iexact Hp

/-- A cell whose round is over closes, and its semaphore is at zero. -/
theorem step_close (j : Fin 4) : iprop(records m K ∗ atPos ER (cell c j) 1 ∅ 0) ⊢ iprop(|={Set.univ}=> semVal (cell c j) 0 : sProp 𝕄) :=
  (sep_mono_left (records_inv m K c j)).trans
    (Rounds.cell_close ER (sched m) (Set.mem_univ (K (c, j))) (fun h => h) (R := 0 + 1) (sched_over m (cell c j)))

end Steps

end Cert.KernelIdeal.Exchange

end
-- ==== Proof.KernelIdeal.Body.lean ====
/-
# The kernel's body keeps to the protocol

`body_run` executes the body of one device effect by effect, from what the protocol gives the device at the start to
what it must have at the end: the entry signal, the wait on the barrier semaphore, the remote copy, the local copy, and
the waits on the local, the send and the receive semaphore. Then both halves of the source and both halves of the result
are back, and the four cells are closed. `body_obligation` states this as the staging pipeline asks for it.
-/
module

public import proofs.«01_k».proof.Proof.KernelIdeal.Steps

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body -/

/-- Device `c`'s staging buffer holds its block. -/
abbrev stg (c : Dev nD) (X : S256x256.Idx → Elt F .f32) : sProp 𝕄 :=
  iprop(∃ f : Buf (Elt F) ((c : Thread nD τ).loc cc0_stg0_0), ⌜f = X⌝ ∗ (((c : Thread nD τ).loc cc0_stg0_0) ↦{fullShare} f))

/-- What the pipeline gives the body. -/
def bodyPre (c : Dev nD) : sProp 𝕄 :=
  iprop(start m c ∗ (dats m 0 c).owesAt () t0_0.castSucc ∗ (∃ d, stg c ((dats m 0 c).before (0 : Fin 1) t0_0 d)))

/-- What it wants back. -/
def bodyPost (c : Dev nD) : sProp 𝕄 :=
  iprop(finish m c ∗ (dats m 0 c).owesAt () t0_0.succ ∗ stg c (xs m c))

set_option maxHeartbeats 800000 in
/-- The body of device `c` goes from what the pipeline gives it to what the pipeline wants back. -/
theorem body_run (c : Dev nD) :
    bodyPre m c ⊢ wp frame (wpE (defs₀ (F := F)) 𝒱₀ c none) Set.univ
      (cc0_body xM (Memref.isWhole_whole _) (Memref.whole main_v1) (Memref.isWhole_whole _) cc0_scratch0 cc0_scratch1 cc0_scratch2)
      (fun _ => bodyPost m c) := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre start ghost positions payToks Dat.owesAt Pipeline.owesWithin
  iintro ⟨⟨⟨%K, #HR, ⟨Hp0, Hp1, Hp2, Hp3⟩, Ht0, Ht1, Ht2, Ht3⟩, Hc0, Hc2, #Hlev, Hres⟩, ⟨%W, %hW, HO⟩, ⟨%d, %g, %hg, Hx⟩⟩
  rw [staged m c d] at hg
  subst hg
  rw [show (dats m 0 c).owed t0_0.castSucc = O₀ c from rfl]
  ihave Hhalves := (result_halves c _).1 $$ Hres
  icases Hhalves with ⟨Hown, Hoth⟩
  ihave Hxx := (xAt_halves m c).1 $$ Hx
  icases Hxx with ⟨HxL, HxR⟩
  -- the entry signal gives the other device its rows of this device's result
  iapply (step_signal m K c _ (signal_dev c) _ (by decide) (m ((c : Thread nD τ).loc main_v1)) W) $$ [HO Ht0 Hoth]
  · isplitr; · iexact HR
    isplitl [HO]; · iexact HO
    isplitl [Ht0]; · iexact Ht0
    iexact Hoth
  iintro HO
  -- the wait on the barrier semaphore, the block still owed
  iapply (step_wait_bar m K c _ (by decide) W) $$ [Hc0 HO Hp0]
  · isplitr; · iexact HR
    isplitl [Hc0]; · iexact Hc0
    isplitl [HO]; · iexact HO
    isplitr; · iexact Hlev
    iexact Hp0
  iintro ⟨HO, Hp0, Hpay⟩
  unfold pay
  dsimp only
  icases Hpay with ⟨⟨%f, Hpeer⟩, -⟩
  -- the two copies
  iapply (step_remote m K c _ (copy_dev c) f (insert (csem 0, ()) W)) $$ [HxL Hpeer HO Ht1 Ht2]
  · isplitr; · iexact HR
    isplitl [HxL]; · iexact HxL
    isplitl [Hpeer]; · iexact Hpeer
    isplitl [HO]; · iexact HO
    isplitl [Ht1]; · iexact Ht1
    iexact Ht2
  iintro ⟨Hc1, HO⟩
  iapply (step_local m K c (m ((c : Thread nD τ).loc main_v1))) $$ [HxR Hown Ht3]
  · isplitr; · iexact HR
    isplitl [HxR]; · iexact HxR
    isplitl [Hown]; · iexact Hown
    iexact Ht3
  iintro Hc3
  -- the waits on the local, the send and the receive semaphore, nothing owed
  iapply (step_wait_copy m K c 3 (by decide) _ rfl (rows_credit c) (insert (csem 0, ()) W)) $$ [Hc3 HO Hp3]
  · isplitr; · iexact HR
    isplitl [Hc3]; · iexact Hc3
    isplitl [HO]; · iexact HO
    iexact Hp3
  iintro ⟨HO, Hp3, Hpay⟩
  unfold pay
  dsimp only
  icases Hpay with ⟨Hown, HxR⟩
  iapply (step_wait_copy m K c 1 (by decide) _ rfl (show (xM).view.dmaCredit = N from rfl) (insert (csem 3, ()) (insert (csem 0, ()) W))) $$ [Hc1 HO Hp1]
  · isplitr; · iexact HR
    isplitl [Hc1]; · iexact Hc1
    isplitl [HO]; · iexact HO
    iexact Hp1
  iintro ⟨HO, Hp1, HxL⟩
  iapply (step_wait_copy m K c 2 (by decide) _ rfl (rows_credit c) (insert (csem 1, ()) (insert (csem 3, ()) (insert (csem 0, ()) W)))) $$ [Hc2 HO Hp2]
  · isplitr; · iexact HR
    isplitl [Hc2]; · iexact Hc2
    isplitl [HO]; · iexact HO
    iexact Hp2
  iintro ⟨HO, Hp2, Hoth⟩
  unfold pay
  dsimp only
  -- the halves joined, the cells closed
  ihave Hx := (xAt_halves m c).2 $$ [HxL HxR]
  · isplitl [HxL] <;> iassumption
  ihave Hres := (result_halves c _).2 $$ [Hown Hoth]
  · isplitl [Hown] <;> iassumption
  imod (step_close m K c 0) $$ [Hp0] with Hz0
  · isplitr; · iexact HR
    iexact Hp0
  imod (step_close m K c 1) $$ [Hp1] with Hz1
  · isplitr; · iexact HR
    iexact Hp1
  imod (step_close m K c 2) $$ [Hp2] with Hz2
  · isplitr; · iexact HR
    iexact Hp2
  imod (step_close m K c 3) $$ [Hp3] with Hz3
  · isplitr; · iexact HR
    iexact Hp3
  rw [wp_ret]; imodintro
  unfold bodyPost finish Dat.owesAt Pipeline.owesWithin
  rw [show (dats m 0 c).owed t0_0.succ = 0 from rfl]
  isplitl [Hres Hz0 Hz1 Hz2 Hz3]
  · isplitl [Hres]; · iexact Hres
    isplitl [Hz0]; · iexact Hz0
    isplitl [Hz1]; · iexact Hz1
    isplitl [Hz2] <;> iassumption
  isplitl [HO]
  · iexists (insert (csem 2, ()) (insert (csem 1, ()) (insert (csem 3, ()) (insert (csem 0, ()) W))))
    isplitr; · ipureintro; exact fun _ _ => Or.inl trivial
    iexact HO
  iexists _; isplitr; · (ipureintro; rfl)
  iexact Hx

set_option maxRecDepth 4000 in
/-- The body does what the staging pipeline asks of it, on every device. -/
theorem body_obligation (c : Dev nD) : BodyObligation (dats (F := F) m 0 c) (defs₀ (F := F)) 𝒱₀ () Set.univ := fun t => by
  have hb : ∀ Φ : Fin cfg0.W → sProp 𝕄, bigSep Finset.univ Φ = iprop(Φ (0 : Fin 1)) := bigSep_W0
  rw [fin_N0 t, hb, hb]
  simp only [owns, Memref.view_whole, View.read_whole, View.set_whole]
  exact body_run m c

end Cert.KernelIdeal.Exchange

end
-- ==== Proof.KernelIdeal.Launch.lean ====
/-
# The kernel on the whole mesh

The launch creates the four cells of every device, exchanges the tokens within the mesh rows, so that each device has
those for the raises it causes, and gives each device credit for the two waits that the other device pays for. With the
body of every device (`body_obligation`) this is a run of the whole program. `run` says what every such run ends with:
each device's result is the gathered array, its block of `x` is unchanged, and every semaphore is at zero.
-/
module

public import proofs.«01_k».proof.Proof.KernelIdeal.Body
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens of the mesh -/

/-- The kernel's own semaphores are the send, the receive and the local one. -/
theorem ownSemFacts : Pipeline.OwnSemFacts cfg0.spec osem := by decide

/-- Every window holds its array whole. -/
theorem share_eq (c : Dev nD) (w : Fin cfg0.W) : (dats m 0 c).share w = fullShare := by unfold Dat.share; split <;> rfl

/-- The cells of the mesh are all different. -/
theorem cells_injective : Function.Injective (fun ck : Dev nD × Fin 4 => cell ck.1 ck.2) := fun _ _ h =>
  Prod.ext (cell_eq.mp h).1 (cell_eq.mp h).2

/-- All cells of the exchange. -/
def meshCells : Finset (GSem nD τ sig) := Finset.univ.map ⟨fun ck : Dev nD × Fin 4 => cell ck.1 ck.2, cells_injective⟩

/-- The token of each cell's duty. -/
def meshToks : Finset (GSem nD τ sig × ℕ × Unit) :=
  Finset.univ.map ⟨fun ck : Dev nD × Fin 4 => (cell ck.1 ck.2, 0, ()), fun _ _ h => cells_injective (congrArg Prod.fst h)⟩

/-- The two protocols' resources at launch. -/
def u₀ : UU := (initOf (Pipeline.cells cfgs cellOf_inj) (Pipeline.launchToks cfgs cellOf_inj), initOf meshCells meshToks)

/-- Four things, one by one. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What is dealt to device `c`: its cells' states, their positions and records, and their tokens. -/
def dealt (c : Dev nD) : sProp 𝕄 :=
  iprop((bigSep Finset.univ fun k : Fin 4 => roundState ER (sched m) (cell c k) 0)
    ∗ (bigSep Finset.univ fun k : Fin 4 => atPos ER (cell c k) 0 ∅ 0)
    ∗ (bigSep Finset.univ fun k : Fin 4 => reached ER (cell c k) 0)
    ∗ bigSep Finset.univ fun k : Fin 4 => dutyTok ER (cell c k) 0 ())

/-- The exchange's resources at launch, dealt to the devices. -/
theorem deal : BI.own (ER (initOf meshCells meshToks)) ⊢ (|==> bigSep Finset.univ (dealt m) : sProp 𝕄) := by
  have hX (Φ : GSem nD τ sig → sProp 𝕄) :
      bigSep meshCells Φ = bigSep Finset.univ fun c : Dev nD => bigSep Finset.univ fun k : Fin 4 => Φ (cell c k) := by
    unfold meshCells; rw [bigSep_map, bigSep_univ_prod]; rfl
  have hT : bigSep meshToks (fun x => (dutyTok ER x.1 x.2.1 x.2.2 : sProp 𝕄))
      = bigSep Finset.univ fun c : Dev nD => bigSep Finset.univ fun k : Fin 4 => dutyTok ER (cell c k) 0 () := by
    unfold meshToks; rw [bigSep_map, bigSep_univ_prod]; rfl
  refine (Rounds.fund ER (sched m) meshCells meshToks).trans (BI.bupd_mono ?_)
  rw [hX, hX, hX, hT]
  unfold dealt
  simp only [bigSep_sep']
  change BIBase.Entails (PROP := sProp 𝕄) _ _
  iintro ⟨Hst, Hr, Hat, Htok⟩
  isplitl [Hst]; · iexact Hst
  isplitl [Hat]; · iexact Hat
  isplitl [Hr]; · iexact Hr
  iexact Htok

/-- Device `c`'s four counters at zero are the kernel's own three and the barrier semaphore's. -/
theorem counters (c : Dev nD) :
    iprop(Pipeline.ownSems0 (Ix := Unit) (Name := ℕ) (U := UU) (Lvl := ℕ) (Val := Elt F) (τ := τ) osem c ∗ unscopedSems0 c)
      ⊣⊢ (bigSep Finset.univ fun k : Fin 4 => semVal (cell c k) 0 : sProp 𝕄) := by
  have ho : (Pipeline.ownSems0 (Ix := Unit) (Name := ℕ) (U := UU) (Lvl := ℕ) (Val := Elt F) (τ := τ) osem c : sProp 𝕄)
      = iprop(semVal (cell c 1) 0 ∗ semVal (cell c 2) 0 ∗ semVal (cell c 3) 0) := by
    rw [Pipeline.ownSems0_eq_of_list c osem [0, 1, 2] (by decide) (by decide)]; rfl
  have hu : (unscopedSems0 c : sProp 𝕄) = semVal (cell c 0) 0 := by
    unfold unscopedSems0; rw [bigSep_eq_bigSepL_of_eq [SemLoc.reg barS] (by decide) (by decide)]; rfl
  rw [ho, hu, bigSep_four]
  constructor
  · iintro ⟨H, H0⟩
    isplitl [H0] <;> iassumption
  · iintro ⟨H0, H⟩
    isplitl [H] <;> iassumption

/-- On one device, the counters and the cells' states become the cells' invariants. -/
theorem open_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Fin 4 => iprop(∃ κ : ℕ, cellInv ER (sched m) κ (cell c k)))
          ∗ (bigSep Finset.univ fun k : Fin 4 => atPos ER (cell c k) 0 ∅ 0)
          ∗ (bigSep Finset.univ fun k : Fin 4 => reached ER (cell c k) 0)
          ∗ bigSep Finset.univ fun k : Fin 4 => dutyTok ER (cell c k) 0 ()) := by
  have hinv : iprop((bigSep Finset.univ fun k : Fin 4 => semVal (cell c k) 0) ∗ bigSep Finset.univ fun k : Fin 4 => roundState ER (sched m) (cell c k) 0)
      ⊢ (|={Set.univ}=> bigSep Finset.univ fun k => iprop(∃ κ : ℕ, cellInv ER (sched m) κ (cell c k)) : sProp 𝕄) := by
    rw [← bigSep_sep']
    exact (bigSep_mono fun k _ => (Rounds.body_intro ER (sched m) (cell c k)).trans inv_alloc).trans (bigSep_fupd _ _)
  unfold dealt
  iintro ⟨Hos, Hus, Hst, Hrest⟩
  ihave Hv := (counters (F := F) c).1 $$ [Hos Hus]
  · isplitl [Hos] <;> iassumption
  imod hinv $$ [Hv Hst] with Hinv
  · isplitl [Hv] <;> iassumption
  imodintro
  isplitl [Hinv] <;> iassumption

/-- The barrier and receive tokens change hands within each mesh row; the send and local tokens stay. -/
theorem toks_swapped : (bigSep Finset.univ fun c : Dev nD => bigSep Finset.univ fun k : Fin 4 => (dutyTok ER (cell c k) 0 () : sProp 𝕄))
    ⊢ bigSep Finset.univ fun c : Dev nD => payToks c := by
  unfold payToks
  rw [bigSep_congr fun (c : Dev nD) _ => bigSep_four fun k => (dutyTok ER (cell c k) 0 () : sProp 𝕄)]
  simp only [bigSep_sep']
  rw [bigSep_univ_equiv swap (fun c : Dev nD => (dutyTok ER (cell c 0) 0 () : sProp 𝕄)),
    bigSep_univ_equiv swap (fun c : Dev nD => (dutyTok ER (cell c 2) 0 () : sProp 𝕄))]
  exact BIBase.Entails.rfl

/-- All devices' cells, open, make every device's part in the exchange. -/
theorem parts :
    (bigSep Finset.univ fun c : Dev nD => iprop((bigSep Finset.univ fun k : Fin 4 => iprop(∃ κ : ℕ, cellInv ER (sched m) κ (cell c k)))
        ∗ (bigSep Finset.univ fun k : Fin 4 => atPos ER (cell c k) 0 ∅ 0)
        ∗ (bigSep Finset.univ fun k : Fin 4 => reached ER (cell c k) 0)
        ∗ bigSep Finset.univ fun k : Fin 4 => dutyTok ER (cell c k) 0 ()) : sProp 𝕄)
      ⊢ bigSep Finset.univ fun c : Dev nD => iprop(∃ K, ghost m K c) := by
  have hpos : (bigSep Finset.univ fun c : Dev nD => bigSep Finset.univ fun k : Fin 4 => (atPos ER (cell c k) 0 ∅ 0 : sProp 𝕄))
      = bigSep Finset.univ fun c : Dev nD => positions c :=
    bigSep_congr fun c _ => by unfold positions; rw [bigSep_four]
  rw [bigSep_sep', bigSep_sep', bigSep_sep', hpos,
    ← bigSep_univ_prod (fun ck : Dev nD × Fin 4 => iprop(∃ κ : ℕ, cellInv ER (sched m) κ (cell ck.1 ck.2))),
    ← bigSep_univ_prod (fun ck : Dev nD × Fin 4 => (reached ER (cell ck.1 ck.2) 0 : sProp 𝕄))]
  iintro ⟨HI, Hpos, #HR, Htok⟩
  ihave HK := (BI.bigSep_exists_pi Finset.univ (fun (ck : Dev nD × Fin 4) (κ : ℕ) => (cellInv ER (sched m) κ (cell ck.1 ck.2) : sProp 𝕄))) $$ HI
  icases HK with ⟨%K, #HI⟩
  ihave Htk := (toks_swapped (F := F)) $$ Htok
  iapply (bigSep_with_persistent (R := records m K) (Φ := fun c : Dev nD => iprop(positions c ∗ payToks c)) fun c _ => by
    unfold ghost
    iintro H
    iexists K
    iexact H)
  isplitr
  · unfold records
    isplitl; · iexact HI
    iexact HR
  rw [bigSep_sep']
  isplitl [Hpos] <;> iassumption

/-- From the counters and what is dealt, on all devices at once, to every device's part in the exchange. -/
theorem set_up :
    (bigSep Finset.univ fun c => iprop(Pipeline.ownSems0 (Ix := Unit) (Name := ℕ) (U := UU) (Lvl := ℕ) (Val := Elt F) (τ := τ) osem c ∗ unscopedSems0 c ∗ dealt m c) : sProp 𝕄)
      ⊢ |={Set.univ}=> bigSep Finset.univ fun c : Dev nD => iprop(∃ K, ghost m K c) :=
  ((bigSep_mono fun c _ => open_cells m c).trans (bigSep_fupd _ _)).trans (BI.fupd_mono (parts m))

/-! ## The credit at launch -/

/-- What device `d` owes device `c`'s barrier or receive cell: all that raises it if `d` is the other device, else nothing. -/
theorem owed_cell (d c : Dev nD) (k : Fin 4) (hk : k = 0 ∨ k = 2) : O₀ d (cell c k) () = if d = peer c then units k else 0 := by
  have e (j : Fin 4) : (cell c k = cell (peer d) j ∧ () = ()) ↔ (d = peer c ∧ k = j) := by
    refine (and_iff_left rfl).trans (cell_eq.trans (and_congr_left' ⟨fun h => ?_, fun h => ?_⟩))
    · rw [h, peer_peer]
    · rw [h, peer_peer]
  unfold O₀
  rw [Pi.add_apply, Finsupp.add_apply, tallyAt_apply, tallyAt_apply, if_congr (e 2) rfl rfl, if_congr (e 0) rfl rfl]
  by_cases hd : d = peer c
  · rcases hk with rfl | rfl
    · rw [if_neg (fun h => absurd h.2 (by decide)), if_pos ⟨hd, rfl⟩, if_pos hd]; rfl
    · rw [if_pos ⟨hd, rfl⟩, if_neg (fun h => absurd h.2 (by decide)), if_pos hd]; rfl
  · rw [if_neg (fun h => hd h.1), if_neg (fun h => hd h.1), if_neg hd]

/-- The credit at launch on a barrier or receive cell is all that raises it. -/
theorem credit_cell (c : Dev nD) (k : Fin 4) (hk : k = 0 ∨ k = 2) :
    tallyOn (cell c k) (launchCredit (Pipeline.owing O₀) 0 (cell c k)) = (tallyAt (cell c k) () (units k) : CellTallies nD τ sig Unit) := by
  unfold tallyAt
  refine congrArg _ (Finsupp.ext fun u => ?_)
  cases u
  rw [Pipeline.launchCredit_owing, Finsupp.single_eq_same, Finset.sum_congr rfl fun d _ => owed_cell d c k hk,
    Finset.sum_ite_eq' Finset.univ (peer c) fun _ => units k, if_pos (Finset.mem_univ _)]

/-- Device `c` starts with credit for the two waits that the other device pays for. -/
theorem credits (c : Dev nD) : (Pipeline.launchCred O₀ c : sProp 𝕄) ⊢ iprop(cred (tallyAt (cell c 0) () 1) ∗ cred (tallyAt (cell c 2) () N)) := by
  unfold Pipeline.launchCred
  rw [bigSep_univ_at _ (csem 0)]
  refine BIClass.sep_mono ?_ ?_
  · exact Entails.of_eq (congrArg cred (credit_cell c 0 (Or.inl rfl)))
  · refine (bigSep_elim (Finset.mem_erase.mpr ⟨show csem 2 ≠ csem 0 by decide, Finset.mem_univ _⟩)).trans ?_
    exact Entails.of_eq (congrArg cred (credit_cell c 2 (Or.inr rfl)))

/-! ## Entering and leaving the kernel -/

/-- What the launch leaves device `c` is what its body starts from. -/
theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ ∃ K, ghost m K c)
      ⊢ |={Set.univ}=> iprop(start m c ∗ emp) := by
  rw [Pipeline.unscopedRestP_none, unscopedRest0_eq]
  iintro ⟨Hres, Hlev, Hcr, -, HG⟩
  ihave Hc := (credits (F := F) c) $$ Hcr
  icases Hc with ⟨H0, H2⟩
  imodintro
  unfold start
  isplitl
  · isplitl [HG]; · iexact HG
    isplitl [H0]; · iexact H0
    isplitl [H2]; · iexact H2
    isplitl [Hlev]; · iexact Hlev
    iexact Hres
  · iempintro

/-- The body's first state is `start`: the kernel has no buffer of its own. -/
theorem first (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -, -⟩
  iexact Hs

/-- What device `c`'s body ends with gives the kernel's own counters back and leaves the result and the barrier semaphore's counter. -/
theorem leave (c : Dev nD) :
    (dats m 0 c).Φ (Fin.last cfg0.N)
      ⊢ iprop((unscopedSems0 c ∗ (((c : Thread nD τ).loc main_v1) ↦{fullShare} gathered (xs m) c)) ∗ Pipeline.ownSems0 osem c ∗ Pipeline.scopedRest cfg0.spec c) := by
  rw [show (dats m 0 c).Φ (Fin.last cfg0.N) = finish m c from rfl, scopedRest0_eq]
  unfold finish
  iintro ⟨Hres, Hz⟩
  ihave Hz := ((Entails.of_eq (bigSep_four fun k => (semVal (cell c k) 0 : sProp 𝕄)).symm).trans (counters (F := F) c).2) $$ Hz
  icases Hz with ⟨Hos, Hus⟩
  isplitl [Hres Hus]
  · isplitl [Hus] <;> iassumption
  isplitl [Hos]; · iexact Hos
  iempintro

/-- The staging semaphores may be awaited at all times. -/
theorem stage_waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) (by fin_cases w <;> fin_cases s <;> decide) _ (by
      rcases t with ⟨_ | _, ht⟩
      · exact Or.inl rfl
      · exact Or.inr rfl)

/-- What is read off device `c`'s share of the final state: its unscoped counters at zero, its result gathered. -/
def ends (c : Dev nD) (s : MemSt nD τ sig (Elt F)) : Prop :=
  (∀ sm : SemLoc sig, sm.isScoped .tc = false → s.sem ((c.tc : Thread nD τ), sm) = 0) ∧ s.mem ((c : Thread nD τ).loc main_v1) = gathered (xs m) c

/-- What device `c` leaves, read off the final state. -/
theorem read_off (c : Dev nD) (s' : Phys nD τ sig (Elt F)) :
    iprop((unscopedSems0 c ∗ (((c : Thread nD τ).loc main_v1) ↦{fullShare} gathered (xs m) c)) ∗ emp ∗ SI s')
      ⊢ (|={Set.univ}=> iprop(⌜ends m c s'.mem⌝ ∗ SI s') : sProp 𝕄) := by
  iintro ⟨⟨Hus, Hres⟩, -, HSI⟩
  imod (Pipeline.unscopedSems0_read (X := unscopedSems0 c) (c := c) fupd_intro s') $$ [Hus HSI] with ⟨%h, HSI⟩
  · isplitl [Hus] <;> iassumption
  icombine HSI Hres gives %hres
  imodintro
  isplitr; · ipureintro; exact ⟨h, Buf.eq_of_forall_mem_univ hres⟩
  iexact HSI

/-! ## The run -/

set_option maxRecDepth 8000 in
/-- From any memory with all semaphores at zero, at any float values, every weakly fair run of the program on the 2 × 2
    mesh ends, without a fault, with the gathered array as every device's result, every device's block of `x` unchanged, and
    every semaphore at zero. -/
theorem run :
    θ_run defs (onTc (τ := τ) (main (F := F))) ⟨m, fun _ => 0, ρ⟩ (fun r =>
      (∀ c : Dev nD, r.2.mem ((c : Thread nD τ).loc main_v1) = gathered (xs m) c
        ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := stage_waits m)
    (G := dealt m) (G' := fun c => iprop(∃ K, ghost m K c)) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := set_up m)
    (hA := fun _ _ => rfl) (hpf := fun _ k => k.elim0)
    (X := start m) (Y := fun c => iprop(unscopedSems0 c ∗ (((c : Thread nD τ).loc main_v1) ↦{fullShare} gathered (xs m) c))) (Z := fun _ => iprop(emp))
    (hX := enter m ρ) (hin := first m) (hout := leave m)
    (QY := ends m) (hY := read_off m)
    (hQ := fun _ h hs => ⟨fun c => ⟨(h c).2.2.2, ((h c).1 (0 : Fin 1)).trans ((dats (F := F) m 0 c).arrAt_in (0 : Fin 1) rfl _)⟩,
      sem_eq_zero hs fun c => (h c).2.2.1⟩)

end Cert.KernelIdeal.Exchange

end
-- ==== Proof.Same.lean ====
/-
# The kernel as printed is the kernel at exact values

The kernel computes nothing, so its text at exact values is the printed text, read at other values. The two programs
are one program under two names: every part of one is the part of the other by definition, the table of bodies label by
label. So what is proved of the one at any values holds of the other at bits.
-/
module

public import proofs.«01_k».proof.Proof.KernelIdeal.Launch
public import proofs.«01_k».proof.Proof.Gen.Kernel

@[expose] public section

noncomputable section

namespace Cert.Kernel.Same

open Idealize.ShloMosaic Idealize.ShloMosaic.TcCoe Idealize.SL.Sem

variable {F : FTy → Type} [FloatOps F]

/-- The two programs have the same table of kernel bodies. -/
theorem bodies : Cert.Kernel.defs₀ (F := F) = Cert.KernelIdeal.defs₀ (F := F) := by
  refine congrArg Defs.onTc (funext fun l => funext fun x => ?_)
  match l, x with
  | 0, (t, s) => rfl
  | ⟨_ + 1, h⟩, _ => exact absurd h (Nat.not_lt.2 (Nat.le_add_left _ _))

/-- The two programs have the same table of bodies, the staging pipeline's included. -/
theorem tables : Cert.Kernel.defs (F := F) = Cert.KernelIdeal.defs (F := F) := congrArg (Pipeline.defs _) bodies

/-- From any memory with all semaphores at zero, at any float values, every weakly fair run of the kernel as printed ends,
    without a fault, with every device's block of `x` unchanged and every semaphore at zero. -/
theorem run (m : (ℓ : Loc nD τ sig) → Buf (Elt F) ℓ) (ρ : Dev nD → PrngReg) :
    θ_run (Cert.Kernel.defs (F := F)) (onTc (τ := τ) (Cert.Kernel.main (F := F))) ⟨m, fun _ => 0, ρ⟩ (fun r =>
      (∀ c : Dev nD, r.2.mem ((c : Thread nD τ).loc main_arg0) = m ((c : Thread nD τ).loc main_arg0)) ∧ r.2.sem = fun _ => 0) := by
  have h := (θ_run _ _ _).mono (fun r (h : _ ∧ _) => (⟨fun c => (h.1 c).2, h.2⟩ : (∀ c, _) ∧ _))
    (Cert.KernelIdeal.Exchange.run (F := F) m ρ)
  rw [← tables] at h
  exact h

end Cert.Kernel.Same

end
-- ==== Proof.Reference.lean ====
/-
# The reference

The reference returns its argument, so its program has no operation at all: a run of it changes nothing. And when every
device of the mesh starts with its block of the reference's argument, the array that the devices gather is the
reference's argument.
-/
module

public import proofs.«01_k».proof.Defs
public import proofs.«01_k».proof.Proof.Gen.ReferenceIdeal
public import proofs.«01_k».proof.Proof.KernelIdeal.Rows
public import Idealize.ShloMosaic.Lib.StableHlo.Run

@[expose] public section

noncomputable section

namespace Cert.ReferenceIdeal.Identity

open Cert.ReferenceIdeal Cert.ReferenceIdeal.Gen
open Idealize.ShloMosaic Idealize.ShloMosaic.TcCoe Idealize.SL.Sem

variable {F : FTy → Type} [FloatOps F]

/-- A run of the reference ends, with its argument, which is also its result, as it was and every semaphore at zero. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

/-- If every device's block is cut from one array by mesh column, then what each device gathers is that array. -/
theorem gathered_blocks {α : Type} (xs : Dev KernelIdeal.nD → KernelIdeal.S256x256.Idx → α) (x : KernelIdeal.S512x256.Idx → α)
    (h : ∀ c : Dev KernelIdeal.nD, xs c = Layout.blockN ⟨2, ![256, 256]⟩ ⟨2, ![512, 256]⟩ (Layout.meshBlock [2, 2] ![[1], []] c) x)
    (c : Dev KernelIdeal.nD) : KernelIdeal.Exchange.gathered xs c = x := by
  funext i
  have hr : (i 0).val < 512 := (i 0).isLt
  have hrow : ∀ d : Dev KernelIdeal.nD, Layout.meshLin [2, 2] d.val [1] = d.val % 2 := by decide
  unfold KernelIdeal.Exchange.gathered
  rw [h, Layout.blockN_apply]
  refine congrArg x (funext fun a => Fin.ext ?_)
  refine (Layout.TilesN.idx_val _ _ _ a).trans ?_
  rw [Layout.meshBlock_val]
  fin_cases a
  · have hd := hrow (KernelIdeal.Exchange.owner c (i 0))
    have ho : (KernelIdeal.Exchange.owner c (i 0)).val = 2 * (c.val / 2) + (i 0).val / 256 := rfl
    show Layout.meshLin [2, 2] (KernelIdeal.Exchange.owner c (i 0)).val [1] * 256 + (i 0).val % 256 = (i 0).val
    omega
  · show Layout.meshLin [2, 2] (KernelIdeal.Exchange.owner c (i 0)).val [] * 256 + (i 1).val = (i 1).val
    rw [show Layout.meshLin [2, 2] (KernelIdeal.Exchange.owner c (i 0)).val [] = 0 from rfl, Nat.zero_mul, Nat.zero_add]

end Cert.ReferenceIdeal.Identity

end
-- ==== Proof.lean ====
/-
# The claims, proved

The kernel runs on the whole mesh, at exact values (`Exchange.run`) and as printed (`Same.run`), and leaves its
arguments as they were and all semaphores at zero, and so does the reference (`Identity.run`). From equal arguments
every device's result is the reference's: what a device gathers from the blocks of an array is that array
(`Identity.gathered_blocks`).
-/
module

public import proofs.«01_k».proof.Defs
public import proofs.«01_k».proof.Proof.Same
public import proofs.«01_k».proof.Proof.KernelIdeal.Launch
public import proofs.«01_k».proof.Proof.Reference

@[expose] public section

noncomputable section

namespace Cert.Proof

open Idealize.ShloMosaic Idealize.SL.Sem

/-- The kernel as it is printed ends with its arguments as they were and every semaphore at zero. -/
theorem kernel_frame : Cert.quiescent_Kernel := fun m g _ => Cert.Kernel.Same.run (F := Bits) m g

/-- The kernel at exact values ends with its arguments as they were and every semaphore at zero. -/
theorem ideal_frame : Cert.quiescent_KernelIdeal := fun m g _ =>
  (θ_run _ _ _).mono (fun _ h => ⟨fun c => (h.1 c).2, h.2⟩) (Cert.KernelIdeal.Exchange.run (F := Ideal) m g)

/-- The reference ends with its argument as it was and every semaphore at zero. -/
theorem reference_frame : Cert.quiescent_ReferenceIdeal := fun m g _ => Cert.ReferenceIdeal.Identity.run m g

/-- Every device's result of the kernel is the reference's result, whole. -/
theorem values_agree : Cert.algebraic_KernelIdeal_ReferenceIdeal := fun m g m' g' _ h => by
  refine ⟨_, (θ_run _ _ _).mono (fun _ hr c => ⟨?_, (hr.1 c).2⟩) (Cert.KernelIdeal.Exchange.run (F := Ideal) m g),
    (θ_run _ _ _).mono (fun _ hr => ⟨hr.1 0, hr.1 0⟩) (Cert.ReferenceIdeal.Identity.run m' g')⟩
  exact (hr.1 c).1.trans (Cert.ReferenceIdeal.Identity.gathered_blocks (Cert.KernelIdeal.Exchange.xs m) _ h c)

/-- All the claims of this certificate. -/
theorem claim : Cert.Claim := ⟨Cert.Kernel.Gen.facts, Cert.KernelIdeal.Gen.facts, Cert.ReferenceIdeal.Gen.facts,
  kernel_frame, ideal_frame, reference_frame, trivial, values_agree⟩

end Cert.Proof

end
